-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x1024 : Shape := ⟨3, ![4, 384, 1024]⟩
abbrev S1024x2048 : Shape := ⟨2, ![1024, 2048]⟩
abbrev S8x4096 : Shape := ⟨2, ![8, 4096]⟩
abbrev S1024x16 : Shape := ⟨2, ![1024, 16]⟩
abbrev S16x4096 : Shape := ⟨2, ![16, 4096]⟩
abbrev S4096 : Shape := ⟨1, ![4096]⟩
abbrev S1536x1024 : Shape := ⟨2, ![1536, 1024]⟩
abbrev S1x4096 : Shape := ⟨2, ![1, 4096]⟩
abbrev S1536x4096 : Shape := ⟨2, ![1536, 4096]⟩
abbrev S1024x256 : Shape := ⟨2, ![1024, 256]⟩
abbrev S8x512 : Shape := ⟨2, ![8, 512]⟩
abbrev S16x512 : Shape := ⟨2, ![16, 512]⟩
abbrev S1x512 : Shape := ⟨2, ![1, 512]⟩
abbrev S1536x512 : Shape := ⟨2, ![1536, 512]⟩
abbrev S1024x512 : Shape := ⟨2, ![1024, 512]⟩
abbrev S16x128 : Shape := ⟨2, ![16, 128]⟩
abbrev S1024x128 : Shape := ⟨2, ![1024, 128]⟩
abbrev S1x128 : Shape := ⟨2, ![1, 128]⟩
abbrev S128x128 : Shape := ⟨2, ![128, 128]⟩
abbrev S32x128 : Shape := ⟨2, ![32, 128]⟩
abbrev S32x128x1 : Shape := ⟨3, ![32, 128, 1]⟩
abbrev S128 : Shape := ⟨1, ![128]⟩

abbrev nBuf : Space → Nat
  | .hbm => 10
  | .vmem => 15
  | .smem => 0
  | _ => 0

abbrev bufTy : (tb : Table) → Fin (tcTables nBuf tb) → BufTy
  | .hbm, ⟨0, _⟩ => ⟨S4x384x1024, .bf16⟩
  | .hbm, ⟨1, _⟩ => ⟨S1024x2048, .i8⟩
  | .hbm, ⟨2, _⟩ => ⟨S8x4096, .bf16⟩
  | .hbm, ⟨3, _⟩ => ⟨S1024x16, .bf16⟩
  | .hbm, ⟨4, _⟩ => ⟨S16x4096, .bf16⟩
  | .hbm, ⟨5, _⟩ => ⟨S4096, .f32⟩
  | .hbm, ⟨6, _⟩ => ⟨S1536x1024, .bf16⟩
  | .hbm, ⟨7, _⟩ => ⟨S1x4096, .f32⟩
  | .hbm, ⟨8, _⟩ => ⟨S1536x4096, .bf16⟩
  | .hbm, ⟨9, _⟩ => ⟨S1x4096, .f32⟩
  | .local _ .vmem, ⟨0, _⟩ => ⟨S1536x1024, .bf16⟩
  | .local _ .vmem, ⟨1, _⟩ => ⟨S1024x256, .i8⟩
  | .local _ .vmem, ⟨2, _⟩ => ⟨S1024x256, .i8⟩
  | .local _ .vmem, ⟨3, _⟩ => ⟨S8x512, .bf16⟩
  | .local _ .vmem, ⟨4, _⟩ => ⟨S8x512, .bf16⟩
  | .local _ .vmem, ⟨5, _⟩ => ⟨S1024x16, .bf16⟩
  | .local _ .vmem, ⟨6, _⟩ => ⟨S16x512, .bf16⟩
  | .local _ .vmem, ⟨7, _⟩ => ⟨S16x512, .bf16⟩
  | .local _ .vmem, ⟨8, _⟩ => ⟨S1x512, .f32⟩
  | .local _ .vmem, ⟨9, _⟩ => ⟨S1x512, .f32⟩
  | .local _ .vmem, ⟨10, _⟩ => ⟨S1536x512, .bf16⟩
  | .local _ .vmem, ⟨11, _⟩ => ⟨S1536x512, .bf16⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | _, _ => ⟨S4x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x384x1024 : Shape := ⟨3, ![4, 384, 1024]⟩
abbrev S1024x2048 : Shape := ⟨2, ![1024, 2048]⟩
abbrev S8x4096 : Shape := ⟨2, ![8, 4096]⟩
abbrev S1024x16 : Shape := ⟨2, ![1024, 16]⟩
abbrev S16x4096 : Shape := ⟨2, ![16, 4096]⟩
abbrev S4096 : Shape := ⟨1, ![4096]⟩
abbrev S_ : Shape := ⟨0, ![]⟩
abbrev S8x2048 : Shape := ⟨2, ![8, 2048]⟩
abbrev S16x2048 : Shape := ⟨2, ![16, 2048]⟩
abbrev S2048 : Shape := ⟨1, ![2048]⟩
abbrev S8x128x2048 : Shape := ⟨3, ![8, 128, 2048]⟩
abbrev S4x384x2048 : Shape := ⟨3, ![4, 384, 2048]⟩
abbrev S1x1x2048 : Shape := ⟨3, ![1, 1, 2048]⟩
abbrev S4x384x2048x1 : Shape := ⟨4, ![4, 384, 2048, 1]⟩
abbrev S4x384x2048x2 : Shape := ⟨4, ![4, 384, 2048, 2]⟩
abbrev S4x384x4096 : Shape := ⟨3, ![4, 384, 4096]⟩
abbrev S2048x1 : Shape := ⟨2, ![2048, 1]⟩
abbrev S2048x2 : Shape := ⟨2, ![2048, 2]⟩
abbrev S1536x4096 : Shape := ⟨2, ![1536, 4096]⟩
abbrev S1x4096 : Shape := ⟨2, ![1, 4096]⟩

abbrev nBuf : Space → Nat
  | .hbm => 101
  | .vmem => 0
  | .smem => 0
  | _ => 0

abbrev bufTy : (tb : Table) → Fin (tcTables nBuf tb) → BufTy
  | .hbm, ⟨0, _⟩ => ⟨S4x384x1024, .bf16⟩
  | .hbm, ⟨1, _⟩ => ⟨S1024x2048, .i8⟩
  | .hbm, ⟨2, _⟩ => ⟨S8x4096, .bf16⟩
  | .hbm, ⟨3, _⟩ => ⟨S1024x16, .bf16⟩
  | .hbm, ⟨4, _⟩ => ⟨S16x4096, .bf16⟩
  | .hbm, ⟨5, _⟩ => ⟨S4096, .f32⟩
  | .hbm, ⟨6, _⟩ => ⟨S1024x2048, .i32⟩
  | .hbm, ⟨7, _⟩ => ⟨S_, .i32⟩
  | .hbm, ⟨8, _⟩ => ⟨S1024x2048, .i32⟩
  | .hbm, ⟨9, _⟩ => ⟨S1024x2048, .i32⟩
  | .hbm, ⟨10, _⟩ => ⟨S_, .i32⟩
  | .hbm, ⟨11, _⟩ => ⟨S1024x2048, .i32⟩
  | .hbm, ⟨12, _⟩ => ⟨S1024x2048, .i1⟩
  | .hbm, ⟨13, _⟩ => ⟨S_, .i32⟩
  | .hbm, ⟨14, _⟩ => ⟨S1024x2048, .i32⟩
  | .hbm, ⟨15, _⟩ => ⟨S1024x2048, .i32⟩
  | .hbm, ⟨16, _⟩ => ⟨S1024x2048, .i32⟩
  | .hbm, ⟨17, _⟩ => ⟨S_, .i32⟩
  | .hbm, ⟨18, _⟩ => ⟨S1024x2048, .i32⟩
  | .hbm, ⟨19, _⟩ => ⟨S1024x2048, .i32⟩
  | .hbm, ⟨20, _⟩ => ⟨S_, .i32⟩
  | .hbm, ⟨21, _⟩ => ⟨S1024x2048, .i32⟩
  | .hbm, ⟨22, _⟩ => ⟨S1024x2048, .i32⟩
  | .hbm, ⟨23, _⟩ => ⟨S_, .i32⟩
  | .hbm, ⟨24, _⟩ => ⟨S1024x2048, .i32⟩
  | .hbm, ⟨25, _⟩ => ⟨S1024x2048, .i1⟩
  | .hbm, ⟨26, _⟩ => ⟨S_, .i32⟩
  | .hbm, ⟨27, _⟩ => ⟨S1024x2048, .i32⟩
  | .hbm, ⟨28, _⟩ => ⟨S1024x2048, .i32⟩
  | .hbm, ⟨29, _⟩ => ⟨S1024x2048, .i32⟩
  | .hbm, ⟨30, _⟩ => ⟨S8x2048, .bf16⟩
  | .hbm, ⟨31, _⟩ => ⟨S16x2048, .bf16⟩
  | .hbm, ⟨32, _⟩ => ⟨S2048, .f32⟩
  | .hbm, ⟨33, _⟩ => ⟨S1024x2048, .bf16⟩
  | .hbm, ⟨34, _⟩ => ⟨S8x128x2048, .bf16⟩
  | .hbm, ⟨35, _⟩ => ⟨S1024x2048, .bf16⟩
  | .hbm, ⟨36, _⟩ => ⟨S1024x2048, .bf16⟩
  | .hbm, ⟨37, _⟩ => ⟨S1024x2048, .f32⟩
  | .hbm, ⟨38, _⟩ => ⟨S1024x2048, .f32⟩
  | .hbm, ⟨39, _⟩ => ⟨S_, .f32⟩
  | .hbm, ⟨40, _⟩ => ⟨S1024x2048, .f32⟩
  | .hbm, ⟨41, _⟩ => ⟨S1024x2048, .f32⟩
  | .hbm, ⟨42, _⟩ => ⟨S1024x2048, .f32⟩
  | .hbm, ⟨43, _⟩ => ⟨S1024x2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S1024x2048, .bf16⟩
  | .hbm, ⟨48, _⟩ => ⟨S4x384x2048, .f32⟩
  | .hbm, ⟨49, _⟩ => ⟨S_, .f32⟩
  | .hbm, ⟨50, _⟩ => ⟨S2048, .f32⟩
  | .hbm, ⟨51, _⟩ => ⟨S2048, .i1⟩
  | .hbm, ⟨52, _⟩ => ⟨S_, .f32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S2048, .f32⟩
  | .hbm, ⟨57, _⟩ => ⟨S1x1x2048, .f32⟩
  | .hbm, ⟨58, _⟩ => ⟨S4x384x2048, .f32⟩
  | .hbm, ⟨59, _⟩ => ⟨S4x384x2048, .f32⟩
  | .hbm, ⟨60, _⟩ => ⟨S8x2048, .bf16⟩
  | .hbm, ⟨61, _⟩ => ⟨S16x2048, .bf16⟩
  | .hbm, ⟨62, _⟩ => ⟨S2048, .f32⟩
  | .hbm, ⟨63, _⟩ => ⟨S1024x2048, .bf16⟩
  | .hbm, ⟨64, _⟩ => ⟨S8x128x2048, .bf16⟩
  | .hbm, ⟨65, _⟩ => ⟨S1024x2048, .bf16⟩
  | .hbm, ⟨66, _⟩ => ⟨S1024x2048, .bf16⟩
  | .hbm, ⟨67, _⟩ => ⟨S1024x2048, .f32⟩
  | .hbm, ⟨68, _⟩ => ⟨S1024x2048, .f32⟩
  | .hbm, ⟨69, _⟩ => ⟨S_, .f32⟩
  | .hbm, ⟨70, _⟩ => ⟨S1024x2048, .f32⟩
  | .hbm, ⟨71, _⟩ => ⟨S1024x2048, .f32⟩
  | .hbm, ⟨72, _⟩ => ⟨S1024x2048, .f32⟩
  | .hbm, ⟨73, _⟩ => ⟨S1024x2048, .f32⟩
  | .hbm, ⟨74, _⟩ => ⟨S_, .f32⟩
  | .hbm, ⟨75, _⟩ => ⟨S2048, .f32⟩
  | .hbm, ⟨76, _⟩ => ⟨S2048, .f32⟩
  | .hbm, ⟨77, _⟩ => ⟨S1024x2048, .bf16⟩
  | .hbm, ⟨78, _⟩ => ⟨S4x384x2048, .f32⟩
  | .hbm, ⟨79, _⟩ => ⟨S_, .f32⟩
  | .hbm, ⟨80, _⟩ => ⟨S2048, .f32⟩
  | .hbm, ⟨81, _⟩ => ⟨S2048, .i1⟩
  | .hbm, ⟨82, _⟩ => ⟨S_, .f32⟩
  | .hbm, ⟨83, _⟩ => ⟨S_, .f32⟩
  | .hbm, ⟨84, _⟩ => ⟨S2048, .f32⟩
  | .hbm, ⟨85, _⟩ => ⟨S2048, .f32⟩
  | .hbm, ⟨86, _⟩ => ⟨S2048, .f32⟩
  | .hbm, ⟨87, _⟩ => ⟨S1x1x2048, .f32⟩
  | .hbm, ⟨88, _⟩ => ⟨S4x384x2048, .f32⟩
  | .hbm, ⟨89, _⟩ => ⟨S4x384x2048, .f32⟩
  | .hbm, ⟨90, _⟩ => ⟨S4x384x2048x1, .f32⟩
  | .hbm, ⟨91, _⟩ => ⟨S4x384x2048x1, .f32⟩
  | .hbm, ⟨92, _⟩ => ⟨S4x384x2048x2, .f32⟩
  | .hbm, ⟨93, _⟩ => ⟨S4x384x4096, .f32⟩
  | .hbm, ⟨94, _⟩ => ⟨S4x384x4096, .bf16⟩
  | .hbm, ⟨95, _⟩ => ⟨S2048x1, .f32⟩
  | .hbm, ⟨96, _⟩ => ⟨S2048x1, .f32⟩
  | .hbm, ⟨97, _⟩ => ⟨S2048x2, .f32⟩
  | .hbm, ⟨98, _⟩ => ⟨S4096, .f32⟩
  | .hbm, ⟨99, _⟩ => ⟨S1536x4096, .bf16⟩
  | .hbm, ⟨100, _⟩ => ⟨S1x4096, .f32⟩
  | _, _ => ⟨S4x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_c_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_call2_v0 : Ref sig .tc := ⟨.hbm, 53, rfl⟩
abbrev main_call2_v1 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_call3_v0 : Ref sig .tc := ⟨.hbm, 83, rfl⟩
abbrev main_call3_v1 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩

abbrev nD : Nat := 1
abbrev τ : Topo := Topo.v7x

variable {F : FTy → Type} [FloatOps F]
-- ==== Proof.Tile.lean ====
module

public import proofs.«01_k».proof.Proof.Gen.KernelIdeal.Skeleton
public import Idealize.ShloMosaic.Lib.Pointwise
public import Idealize.ShloMosaic.Lib.BitcastFour

@[expose] public section

set_option maxRecDepth 16384

noncomputable section

namespace Cert.KernelIdeal.Tile

open Idealize.ShloMosaic Idealize.ShloMosaic.TcCoe Idealize.SL.Sem
open Cert.KernelIdeal Cert.KernelIdeal.Gen

/-- The lane indices of the in-register gather: at lane `l` it is `off + l / 2` (a floor division, then the
    wrap-around of a negative index, as the kernel spells them). -/
def laneIdx (off : BitVec 32) : IVec S32x128 32 :=
  have l : IVec S32x128 32 := iota .tc S32x128 32 [1] iota_S32x128_d1_w32
  have q : IVec S32x128 32 := divsi l (broadcast S32x128 2#32)
  have sl : IVec S32x128 32 :=
    subi (extui 32 (cmpi .sgt l (broadcast S32x128 0#32)) natLt_1_32) (extui 32 (cmpi .slt l (broadcast S32x128 0#32)) natLt_1_32)
  have s2 : BitVec 32 := Scalar.subi (Scalar.extui (Scalar.cmpi .sgt 2#32 0#32)) (Scalar.extui (Scalar.cmpi .slt 2#32 0#32))
  have odd : IVec S32x128 1 := cmpi .ne (remsi l (broadcast S32x128 2#32)) (broadcast S32x128 0#32)
  have fl : IVec S32x128 32 := select (andi (cmpi .ne sl (broadcast S32x128 s2)) odd) (subi q (broadcast S32x128 1#32)) q
  have at_ : IVec S32x128 32 := addi (broadcast S32x128 off) fl
  select (cmpi .slt at_ (broadcast S32x128 0#32)) (addi at_ (broadcast S32x128 128#32)) at_

/-- The shift of lane `l`: `4 - 4 · (l % 2)`, a floored remainder as the kernel spells it. -/
def shiftBy : IVec S32x128 32 :=
  have l : IVec S32x128 32 := iota .tc S32x128 32 [1] iota_S32x128_d1_w32
  have two : BitVec 32 := Scalar.select (Scalar.cmpi .eq 2#32 0#32) 1#32 2#32
  have r : IVec S32x128 32 := remsi l (broadcast S32x128 two)
  have neg : IVec S32x128 1 := broadcastTo S32x128 (broadcast S32x128 (Scalar.cmpi .slt two 0#32)) broadcasts_S32x128_S32x128
  have c : IVec S32x128 1 :=
    andi (xori (cmpi .slt r (broadcast S32x128 0#32)) neg) (cmpi .ne r (broadcast S32x128 0#32))
  have m : IVec S32x128 32 := select c (addi r (broadcast S32x128 two)) r
  subi (broadcast S32x128 4#32) (muli (broadcast S32x128 4#32) m)

/-- One tile of codes as the kernel unpacks it: the packed bytes seen as words, gathered along the lanes, shifted so
    that the lane's nibble is the high one of its byte, masked, and seen as bytes again. -/
def nib (off : BitVec 32) (x : Vec Ideal S128x128 .i8) : IVec S128x128 8 :=
  have w : IVec S32x128 32 := bitcast S32x128 32 x bitcasts_S128x128_w8_S32x128_w32
  have i : IVec S32x128 32 := shapeCast S32x128 (shapeCast S32x128x1 (laneIdx off) shapeCasts_S32x128_S32x128x1) shapeCasts_S32x128x1_S32x128
  have g : IVec S32x128 32 := dynamicGather 1 w i
  bitcast S128x128 8 (andi (shli g shiftBy) (broadcast S32x128 4042322160#32)) bitcasts_S32x128_w32_S128x128_w8

/-- The gather reads lane `64 h + l / 2`. -/
theorem laneIdx_row0 : ∀ (h : Fin 2) (l : Fin 128),
    (laneIdx (BitVec.ofNat 32 (64 * h.val)) (ValueIdx.ix2 0 l)).toNat = 64 * h.val + l.val / 2 := by
  decide +kernel

/-- The same in every row. -/
theorem laneIdx_apply (h : Fin 2) (a : Fin 32) (l : Fin 128) :
    (laneIdx (BitVec.ofNat 32 (64 * h.val)) (ValueIdx.ix2 a l)).toNat = 64 * h.val + l.val / 2 :=
  (congrArg BitVec.toNat (show laneIdx _ (ValueIdx.ix2 a l) = laneIdx _ (ValueIdx.ix2 0 l) from rfl)).trans (laneIdx_row0 h l)

/-- An even lane shifts by four, an odd one not at all. -/
theorem shiftBy_row0 : ∀ (l : Fin 128),
    shiftBy (ValueIdx.ix2 0 l) = BitVec.ofNat 32 (4 - 4 * (l.val % 2)) := by
  decide +kernel

/-- The same in every row. -/
theorem shiftBy_apply (a : Fin 32) (l : Fin 128) :
    shiftBy (ValueIdx.ix2 a l) = BitVec.ofNat 32 (4 - 4 * (l.val % 2)) :=
  (show shiftBy (ValueIdx.ix2 a l) = shiftBy (ValueIdx.ix2 0 l) from rfl).trans (shiftBy_row0 l)

/-- The mask keeps the high nibble of every byte. -/
theorem mask_getLsbD : ∀ k : Fin 32, (4042322160#32 : BitVec 32).getLsbD k.val = decide (4 ≤ k.val % 8) := by
  decide +kernel

/-- The gathered word: row `a`, lane `l` of the gather is the word at row `a`, lane `64 h + l / 2`. -/
theorem gather_apply (h : Fin 2) (w : IVec S32x128 32) (a : Fin 32) (l : Fin 128) :
    dynamicGather 1 w (shapeCast S32x128 (shapeCast S32x128x1 (laneIdx (BitVec.ofNat 32 (64 * h.val))) shapeCasts_S32x128_S32x128x1)
        shapeCasts_S32x128x1_S32x128) (ValueIdx.ix2 a l)
      = w (ValueIdx.ix2 a ⟨64 * h.val + l.val / 2, by omega⟩) := by
  rw [shapeCast_shapeCast, dynamicGather_apply]
  congr 1
  funext b
  match b with
  | ⟨0, _⟩ => rfl
  | ⟨1, _⟩ =>
    refine Fin.ext ?_
    show (laneIdx (BitVec.ofNat 32 (64 * h.val)) (ValueIdx.ix2 a l)).toNat % 128 = 64 * h.val + l.val / 2
    rw [laneIdx_apply]; omega

/-- A bit of a word read as bytes: bit `q` of the byte at row `i` is bit `8 (i % 4) + q` of the word at row `i / 4`. -/
theorem bytes_getLsbD (w : IVec S32x128 32) (i : Fin 128) (j : Fin 128) (q : Nat) (hq : q < 8) :
    (bitcast S128x128 8 w bitcasts_S32x128_w32_S128x128_w8 (ValueIdx.ix2 i j)).getLsbD q
      = (w (ValueIdx.ix2 ⟨i.val / 4, by omega⟩ j)).getLsbD (8 * (i.val % 4) + q) := by
  rw [bitcast_getLsbD w _ _ q hq (by decide)]
  have e0 : (i.val * 8 + q) / 32 = i.val / 4 := by omega
  have e1 : (i.val * 8 + q) % 32 = 8 * (i.val % 4) + q := by omega
  show BitVec.getLsbD (w _) ((i.val * 8 + q) % 32) = _
  rw [e1]
  congr 2
  funext c
  match c with
  | ⟨0, _⟩ => exact Fin.ext ((Shape.Bitcasts.srcIdx_row _ _ _ _ ⟨0, Nat.zero_lt_two⟩ rfl).trans e0)
  | ⟨1, _⟩ => exact Fin.ext (Shape.Bitcasts.srcIdx_other _ _ _ _ ⟨1, Nat.one_lt_two⟩ (by show ¬ 1 + 2 = 2; omega))

/-- The unpacked byte at row `i`, lane `j`: the packed byte of lane `64 h + j / 2`, its nibble for the parity of `j` moved to the
    high half and the other half cleared. -/
theorem nib_apply (h : Fin 2) (x : Vec Ideal S128x128 .i8) (i j : Fin 128) :
    nib (BitVec.ofNat 32 (64 * h.val)) x (ValueIdx.ix2 i j)
      = ((x (ValueIdx.ix2 i ⟨64 * h.val + j.val / 2, by omega⟩) : BitVec 8) <<< (4 - 4 * (j.val % 2))) &&& 0xF0#8 := by
  apply BitVec.eq_of_getLsbD_eq
  intro q hq
  unfold nib
  refine (bytes_getLsbD _ i j q hq).trans ?_
  show BitVec.getLsbD (IntOp.shli .vector (dynamicGather 1 _ _ _) (shiftBy _) &&& 4042322160#32) _ = _
  rw [gather_apply, shiftBy_apply, BitVec.getLsbD_and, mask_getLsbD ⟨8 * (i.val % 4) + q, by omega⟩]
  have hs : (BitVec.ofNat 32 (4 - 4 * (j.val % 2))).toNat = 4 - 4 * (j.val % 2) := by
    rw [BitVec.toNat_ofNat]; omega
  unfold IntOp.shli
  rw [hs, if_pos (by omega)]
  have hm : (0xF0#8).getLsbD q = decide (4 ≤ q) := by
    clear hs; interval_cases q <;> rfl
  have e8 : (8 * (i.val % 4) + q) % 8 = q := by omega
  rw [BitVec.getLsbD_and, hm]
  simp only [e8]
  by_cases h4 : 4 ≤ q
  · simp only [h4, decide_true, Bool.and_true]
    rw [BitVec.shiftLeft_eq', hs, BitVec.getLsbD_shiftLeft, BitVec.getLsbD_shiftLeft]
    have hd : 4 - 4 * (j.val % 2) ≤ 4 := by omega
    rw [bitcast_8_32_getLsbD_ix2 x _ _ _ _ (by omega) i (by simp only; omega)]
    have e : (8 * (i.val % 4) + q - (4 - 4 * (j.val % 2))) % 8 = q - (4 - 4 * (j.val % 2)) := by omega
    rw [e]
    have d1 : decide (8 * (i.val % 4) + q < 32) = true := by simp; omega
    have d2 : decide (8 * (i.val % 4) + q < 4 - 4 * (j.val % 2)) = false := by simp; omega
    have d3 : decide (q < 8) = true := by simp; omega
    have d4 : decide (q < 4 - 4 * (j.val % 2)) = false := by simp; omega
    rw [d1, d2, d3, d4]
  · simp [h4]

end Cert.KernelIdeal.Tile
end
-- ==== Proof.Spec.lean ====
/-
  The layer's mathematics over the extended reals, on plain index functions. The weight of a linear layer is given by four-bit
  signed codes (two to a byte, the low nibble for the even column), a scale per group of 128 rows and column, and a
  rank-16 correction; each column is then rescaled to a given magnitude. Both programs are shown equal to these.
-/
module

public import Idealize.ShloMosaic.Lib.Pointwise

@[expose] public section

noncomputable section

namespace Cert.Dora

open Idealize.ShloMosaic

/-- The signed four-bit code in the low (`p = 0`) or high (`p = 1`) nibble of a byte. -/
def nibble (b : BitVec 8) (p : ℕ) : ℤ :=
  if 8 ≤ b.toNat / 16 ^ p % 16 then (b.toNat / 16 ^ p % 16 : ℤ) - 16 else (b.toNat / 16 ^ p % 16 : ℤ)

/-- One entry of the adapted weight: code times scale, plus twice (`two`, kept as the constant the programs write) the entry of the low-rank product. -/
def entry (b : BitVec 8) (p : ℕ) (s : EReal) (ab : EReal) : EReal :=
  ((nibble b p : ℝ) : EReal) * s + Ideal.ofBits .f32 0x40000000#32 * ab

/-- The norm of a column. -/
def colNorm (v : Fin 1024 → EReal) : EReal := Ideal.sqrt (∑ r, v r * v r)

/-- One result: a row of the input against a column of the weight, times the column's magnitude over its norm (over one, if the norm isn't positive). -/
def out (x v : Fin 1024 → EReal) (mag : EReal) : EReal :=
  (∑ r, x r * v r) * Ideal.div mag (if 0 < colNorm v then colNorm v else 1)

/-! ## From the argument arrays -/

variable (codes : (⟨2, ![1024, 2048]⟩ : Shape).Idx → BitVec 8) (scales : (⟨2, ![8, 4096]⟩ : Shape).Idx → EReal)
    (a : (⟨2, ![1024, 16]⟩ : Shape).Idx → EReal) (b : (⟨2, ![16, 4096]⟩ : Shape).Idx → EReal)

/-- Column `q` of the adapted weight: its codes are the nibbles `q % 2` of byte column `q / 2`, its scales change every 128 rows. -/
def col (q : Fin 4096) (r : Fin 1024) : EReal :=
  entry (codes (ix2 r ⟨q.val / 2, by omega⟩)) (q.val % 2) (scales (ix2 ⟨r.val / 128, by omega⟩ q)) (∑ k : Fin 16, a (ix2 r k) * b (ix2 k q))

/-- The layer's output at flattened row `p` (batch `p / 384`, position `p % 384`) and column `q`. -/
def layer (x : (⟨3, ![4, 384, 1024]⟩ : Shape).Idx → EReal) (mag : (⟨1, ![4096]⟩ : Shape).Idx → EReal) (p : Fin 1536) (q : Fin 4096) : EReal :=
  out (fun r => x (ix3 ⟨p.val / 384, by omega⟩ ⟨p.val % 384, by omega⟩ r)) (col codes scales a b q) (mag (ix1 q))

end Cert.Dora
end
-- ==== Proof.Block.lean ====
/-
  One 128 × 128 tile of the adapted weight as the kernel computes it, and one 128-column piece of the norms.
-/
module

public import proofs.«01_k».proof.Proof.Tile
public import proofs.«01_k».proof.Proof.Spec
public import Idealize.ShloMosaic.Lib.IdealHost

@[expose] public section

set_option maxRecDepth 16384

noncomputable section

namespace Cert.KernelIdeal.Tile

open Idealize.ShloMosaic Idealize.ShloMosaic.TcCoe Idealize.SL.Sem
open Cert.KernelIdeal Cert.KernelIdeal.Gen Cert.Dora

/-- The masked byte, read signed, is sixteen times the code. -/
theorem byte_toInt (b : BitVec 8) (p : Fin 2) :
    ((b <<< (4 - 4 * p.val)) &&& 0xF0#8).toInt = 16 * nibble b p.val :=
  (by decide +kernel : ∀ n : Fin 256, ∀ p : Fin 2,
    ((BitVec.ofFin n <<< (4 - 4 * p.val)) &&& 0xF0#8).toInt = 16 * nibble (BitVec.ofFin n) p.val) b.toFin p

/-- Rows `128 g …` of a tall block. -/
theorem rows_slices (g : Fin 8) : S1024x128.Slices ![128 * g.val, 0] S128x128 := by
  revert g; decide

/-- One tile of the weight from its packed bytes, its row of scales and the low-rank part of its column chunk. -/
def blk (off : BitVec 32) (g : Fin 8) (x : Vec Ideal S128x128 .i8) (sc : Vec Ideal S1x128 .bf16) (ab : FVec Ideal S1024x128 .f32) :
    FVec Ideal S128x128 .f32 :=
  addf
    (extf .f32
      (mulf (mulf (sitofp .bf16 (nib off x)) (broadcast S128x128 (Scalar.ofBits (F := Ideal) .bf16 0x3D80#16)))
        (broadcastTo S128x128 sc broadcasts_S1x128_S128x128)) bitsLt_bf16_f32)
    (extractStridedSlice S128x128 ![128 * g.val, 0] ab (rows_slices g))

/-- A sixteenth of sixteen times a code. -/
theorem sixteenth (n : ℤ) : (((16 * n : ℤ) : ℝ) : EReal) * (((1 : ℝ) / 16 : ℝ) : EReal) = ((n : ℝ) : EReal) := by
  rw [← EReal.coe_mul]
  congr 1
  push_cast
  ring

/-- The tile read at an entry. -/
theorem blk_apply (h : Fin 2) (g : Fin 8) (x : Vec Ideal S128x128 .i8) (sc : Vec Ideal S1x128 .bf16) (ab : FVec Ideal S1024x128 .f32)
    (i j : Fin 128) :
    blk (BitVec.ofNat 32 (64 * h.val)) g x sc ab (ix2 i j)
      = ((nibble (x (ix2 i ⟨64 * h.val + j.val / 2, by omega⟩)) (j.val % 2) : ℝ) : EReal) * sc (ix2 0 j)
        + ab (ix2 ⟨128 * g.val + i.val, by omega⟩ j) := by
  have hn : (((nib (BitVec.ofNat 32 (64 * h.val)) x (ix2 i j)).toInt : ℝ) : EReal) * Ideal.ofBits .bf16 0x3D80#16
      = ((nibble (x (ix2 i ⟨64 * h.val + j.val / 2, by omega⟩)) (j.val % 2) : ℝ) : EReal) := by
    rw [show nib (BitVec.ofNat 32 (64 * h.val)) x (ix2 i j) = _ from nib_apply h x i j,
      byte_toInt _ ⟨j.val % 2, by omega⟩, Ideal.ofBits_sixteenth_bf16]
    exact sixteenth _
  rw [← hn]
  pointwise [blk]
  rfl

/-! ## The tiles of a block of 512 columns -/

variable (x1 : Vec Ideal S1024x256 .i8) (x2 : Vec Ideal S8x512 .bf16) (x3 : Vec Ideal S1024x16 .bf16) (x4 : Vec Ideal S16x512 .bf16)

/-- The packed bytes of row group `g` for column chunk `c`. -/
def codesRect (c : Fin 4) (g : Fin 8) : Rect S1024x256 :=
  Rect.unit (s := S1024x256) ![128 * g.val, 128 * (c.val / 2)] S128x128.size (by revert c g; decide)

/-- The scales of row group `g`, column chunk `c`. -/
def scaleRect (c : Fin 4) (g : Fin 8) : Rect S8x512 :=
  Rect.unit (s := S8x512) ![g.val, 128 * c.val] S1x128.size (by revert c g; decide)

/-- Column chunk `c` of the second low-rank factor. -/
def loraRect (c : Fin 4) : Rect S16x512 :=
  Rect.unit (s := S16x512) ![0, 128 * c.val] S16x128.size (by revert c; decide)

/-- Where tile `(c, g)` lies in the weight. -/
def tileRect (c : Fin 4) (g : Fin 8) : Rect S1024x512 :=
  Rect.unit (s := S1024x512) ![128 * g.val, 128 * c.val] S128x128.size (by revert c g; decide)

/-- Where column chunk `c` lies in the norms. -/
def normRect (c : Fin 4) : Rect S1x512 :=
  Rect.unit (s := S1x512) ![0, 128 * c.val] S1x128.size (by revert c; decide)

/-- Tile `(c, g)` of the weight. -/
def tile (c : Fin 4) (g : Fin 8) : FVec Ideal S128x128 .f32 :=
  blk (BitVec.ofNat 32 (64 * (c.val % 2))) g (View.ld x1 (codesRect c g)) (View.ld x2 (scaleRect c g))
    (k0_pay4 (F := Ideal) x3 (View.ld x4 (loraRect c)))

/-- An entry of the block's weight, at its row and column. -/
def wAt (r : Fin 1024) (q : Fin 512) : EReal :=
  entry (x1 (ix2 r ⟨q.val / 2, by omega⟩)) (q.val % 2) (x2 (ix2 ⟨r.val / 128, by omega⟩ q))
    (∑ k : Fin 16, x3 (ix2 r k) * x4 (ix2 k q))

/-- A tile's entry is the weight's entry there. -/
theorem tile_apply (c : Fin 4) (g : Fin 8) (i j : Fin 128) :
    tile x1 x2 x3 x4 c g (ix2 i j) = wAt x1 x2 x3 x4 ⟨128 * g.val + i.val, by omega⟩ ⟨128 * c.val + j.val, by omega⟩ := by
  unfold tile
  refine (blk_apply ⟨c.val % 2, by omega⟩ g _ _ _ i j).trans ?_
  unfold wAt entry codesRect scaleRect loraRect
  pointwise [k0_pay4]
  have e1 : 128 * (c.val / 2) + (64 * (c.val % 2) + j.val / 2) = (128 * c.val + j.val) / 2 := by omega
  have e2 : (128 * c.val + j.val) % 2 = j.val % 2 := by omega
  have e3 : (128 * g.val + i.val) / 128 = g.val := by omega
  simp only [e1, e2, e3]

/-- A sum over the rows, group by group. -/
theorem sum_rows (f : Fin 1024 → EReal) : ∑ r, f r = ∑ g : Fin 8, ∑ i : Fin 128, f ⟨128 * g.val + i.val, by omega⟩ :=
  (Fin.sum_univ_tiles 8 128 rfl f).trans (by simp only [Nat.mul_comm _ 128])

/-- The running sum of squares after one more tile. -/
def addSq (s : FVec Ideal S1x128 .f32) (v : FVec Ideal S128x128 .f32) : FVec Ideal S1x128 .f32 :=
  addf s (shapeCast S1x128 (multiReduction .add [0] S128 (mulf v v) 0x00000000#32 reduces_S128x128_S128 (.inl rfl) rfl) shapeCasts_S128_S1x128)

/-- The norms of a column chunk from its eight tiles. -/
def chunkNorm (T : Fin 8 → FVec Ideal S128x128 .f32) : FVec Ideal S1x128 .f32 :=
  sqrt (addSq (addSq (addSq (addSq (addSq (addSq (addSq (addSq k0_pay5 (T 0)) (T 1)) (T 2)) (T 3)) (T 4)) (T 5)) (T 6)) (T 7))

/-- One more tile adds the squares of its column. -/
theorem addSq_apply (s : FVec Ideal S1x128 .f32) (v : FVec Ideal S128x128 .f32) (j : Fin 128) :
    addSq s v (ix2 0 j) = s (ix2 0 j) + ∑ i : Fin 128, v (ix2 i j) * v (ix2 i j) := by
  pointwise [addSq]

/-- Eight tiles give the norms of their columns. -/
theorem chunkNorm_apply (c : Fin 4) (j : Fin 128) :
    chunkNorm (tile x1 x2 x3 x4 c) (ix2 0 j) = colNorm fun r => wAt x1 x2 x3 x4 r ⟨128 * c.val + j.val, by omega⟩ := by
  have hz : (k0_pay5 (F := Ideal)) (ix2 0 j) = 0 := by pointwise [k0_pay5]
  show Ideal.sqrt _ = _
  unfold colNorm
  congr 1
  simp only [addSq_apply, hz, zero_add, tile_apply]
  rw [sum_rows, Fin.sum_univ_eight]

/-! ## The stores, read back -/

/-- The store of tile `(c, g)`, rounded. -/
def tilePiece (T : Fin 4 → Fin 8 → FVec Ideal S128x128 .f32) (p : Fin 4 × Fin 8) : View.Piece (Elt Ideal) S1024x512 .bf16 :=
  ⟨tileRect p.1 p.2, shapeCast S128x128 (truncf .bf16 (T p.1 p.2) bitsLt_bf16_f32) shapeCasts_S128x128_S128x128⟩

/-- The tiles, last stored first. -/
def tileOrder : List (Fin 4 × Fin 8) :=
  [(3, 7), (3, 6), (3, 5), (3, 4), (3, 3), (3, 2), (3, 1), (3, 0), (2, 7), (2, 6), (2, 5), (2, 4), (2, 3), (2, 2), (2, 1), (2, 0),
   (1, 7), (1, 6), (1, 5), (1, 4), (1, 3), (1, 2), (1, 1), (1, 0), (0, 7), (0, 6), (0, 5), (0, 4), (0, 3), (0, 2), (0, 1), (0, 0)]

/-- The stores into the weight's buffer, last first. -/
def tilePieces (T : Fin 4 → Fin 8 → FVec Ideal S128x128 .f32) : List (View.Piece (Elt Ideal) S1024x512 .bf16) :=
  tileOrder.map (tilePiece T)

/-- The store of the norms of chunk `c`. -/
def normPiece (T : Fin 4 → Fin 8 → FVec Ideal S128x128 .f32) (c : Fin 4) : View.Piece (Elt Ideal) S1x512 .f32 :=
  ⟨normRect c, chunkNorm (T c)⟩

/-- The stores into the norms' block, last first. -/
def normPieces (T : Fin 4 → Fin 8 → FVec Ideal S128x128 .f32) : List (View.Piece (Elt Ideal) S1x512 .f32) :=
  ([3, 2, 1, 0] : List (Fin 4)).map (normPiece T)

/-- A stored tile, read at an entry. -/
theorem stored_apply (c : Fin 4) (g : Fin 8) (i j : Fin 128) (x : S128x128.Idx) (hx : x = ix2 i j) :
    shapeCast S128x128 (truncf .bf16 (tile x1 x2 x3 x4 c g) bitsLt_bf16_f32) shapeCasts_S128x128_S128x128 x
      = wAt x1 x2 x3 x4 ⟨128 * g.val + i.val, by omega⟩ ⟨128 * c.val + j.val, by omega⟩ := by
  subst hx
  rw [shapeCast_self]
  exact tile_apply x1 x2 x3 x4 c g i j

/-- A stored chunk of norms, read at an entry. -/
theorem chunkNorm_at (c : Fin 4) (z : Fin 1) (j : Fin 128) (x : S1x128.Idx) (hx : x = ix2 z j) :
    chunkNorm (tile x1 x2 x3 x4 c) x = colNorm fun r => wAt x1 x2 x3 x4 r ⟨128 * c.val + j.val, by omega⟩ := by
  subst hx
  obtain rfl : z = 0 := Subsingleton.elim _ _
  exact chunkNorm_apply x1 x2 x3 x4 c j

/-- The buffer holds the block's weight after the 32 stores. -/
theorem canon_tilePieces (r : Fin 1024) (q : Fin 512) :
    View.canon (tilePieces (tile x1 x2 x3 x4)) (ix2 r q) = wAt x1 x2 x3 x4 r q := by
  refine View.canon_apply_of_pieces (Val := Elt Ideal) (e := .bf16) (S := S1024x512) (fun y => wAt x1 x2 x3 x4 (y 0) (y 1)) _ (fun p hp x => ?_) (ix2 r q) ?_
  · obtain ⟨⟨c, g⟩, -, rfl⟩ := List.mem_map.1 hp
    exact (stored_apply x1 x2 x3 x4 c g (x 0) (x 1) x (eq_ix2 (n0 := 128) (n1 := 128) x)).trans
      (congrArg₂ (wAt x1 x2 x3 x4) (Fin.ext (by show 128 * g.val + (x 0).val = 128 * g.val + 1 * (x 0).val; omega))
        (Fin.ext (by show 128 * c.val + (x 1).val = 128 * c.val + 1 * (x 1).val; omega)))
  · refine ⟨tilePiece (tile x1 x2 x3 x4) (⟨q.val / 128, by omega⟩, ⟨r.val / 128, by omega⟩), List.mem_map_of_mem ?_, ?_⟩
    · exact (by decide : ∀ c : Fin 4, ∀ g : Fin 8, (c, g) ∈ tileOrder) _ _
    · show ix2 r q ∈ (tileRect _ _).set
      unfold tileRect
      rw [Rect.mem_set_unit]
      intro a
      match a with
      | ⟨0, _⟩ => exact ⟨show 128 * (r.val / 128) ≤ r.val by omega, show r.val < 128 * (r.val / 128) + 128 by omega⟩
      | ⟨1, _⟩ => exact ⟨show 128 * (q.val / 128) ≤ q.val by omega, show q.val < 128 * (q.val / 128) + 128 by omega⟩

/-- The norms' block after its four stores. -/
theorem canon_normPieces (q : Fin 512) :
    View.canon (normPieces (tile x1 x2 x3 x4)) (ix2 0 q) = colNorm fun r => wAt x1 x2 x3 x4 r q := by
  refine View.canon_apply_of_pieces (Val := Elt Ideal) (e := .f32) (S := S1x512) (fun y => colNorm fun r => wAt x1 x2 x3 x4 r (y 1)) _ (fun p hp x => ?_) (ix2 0 q) ?_
  · obtain ⟨c, -, rfl⟩ := List.mem_map.1 hp
    exact (chunkNorm_at x1 x2 x3 x4 c (x 0) (x 1) x (eq_ix2 (n0 := 1) (n1 := 128) x)).trans
      (congrArg (fun k => colNorm fun r => wAt x1 x2 x3 x4 r k)
        (Fin.ext (by show 128 * c.val + (x 1).val = 128 * c.val + 1 * (x 1).val; omega)))
  · refine ⟨normPiece (tile x1 x2 x3 x4) ⟨q.val / 128, by omega⟩, List.mem_map_of_mem ?_, ?_⟩
    · exact (by decide : ∀ c : Fin 4, c ∈ ([3, 2, 1, 0] : List (Fin 4))) _
    · show ix2 0 q ∈ (normRect _).set
      unfold normRect
      rw [Rect.mem_set_unit]
      intro a
      match a with
      | ⟨0, _⟩ => exact ⟨show 0 ≤ 0 by omega, show 0 < 0 + 1 by omega⟩
      | ⟨1, _⟩ => exact ⟨show 128 * (q.val / 128) ≤ q.val by omega, show q.val < 128 * (q.val / 128) + 128 by omega⟩

/-- The last store: input times weight, each column scaled by magnitude over norm. -/
theorem scaled_apply (m : Vec Ideal S1x512 .f32) (n : Vec Ideal S1x512 .f32) (x : Vec Ideal S1536x1024 .bf16) (w : Vec Ideal S1024x512 .bf16)
    (p : Fin 1536) (q : Fin 512) :
    k0_pay3 (F := Ideal) m n n x w (ix2 p q)
      = (∑ r : Fin 1024, x (ix2 p r) * w (ix2 r q)) * Ideal.div (m (ix2 0 q)) (if 0 < n (ix2 0 q) then n (ix2 0 q) else 1) := by
  pointwise [k0_pay3]

end Cert.KernelIdeal.Tile
end
-- ==== Proof.Out.lean ====
/-
  What one grid point leaves in its two output blocks, entry by entry, from its input blocks.
-/
module

public import proofs.«01_k».proof.Proof.Block
public import proofs.«01_k».proof.Proof.Gen.KernelIdeal.Frame
public import Idealize.ShloMosaic.Lib.Pipeline.ValueKit

@[expose] public section

set_option maxRecDepth 16384

noncomputable section

namespace Cert.KernelIdeal.Tile

open Idealize.ShloMosaic Idealize.ShloMosaic.TcCoe Idealize.ShloMosaic.Tactic Idealize.SL.Sem
open Cert.KernelIdeal Cert.KernelIdeal.Gen Cert.Dora

/-- A rectangle that starts at the origin and has a two-axis buffer's size moves no index. -/
theorem origin_idx {n0 n1 : ℕ} (inb) (j : (⟨2, ![n0, n1]⟩ : Shape).Idx) :
    (Rect.unit (s := ⟨2, ![n0, n1]⟩) ![0, 0] ![n0, n1] inb).toLoadRect.idx j = j := by
  funext a
  match a with
  | ⟨0, _⟩ => exact Fin.ext (by show 0 + 1 * (j 0).val = (j 0).val; omega)
  | ⟨1, _⟩ => exact Fin.ext (by show 0 + 1 * (j 1).val = (j 1).val; omega)

variable (c : Dev nD) (i : grid0.Coords) (arg1 : Memref sig .tc .vmem S1536x1024 .bf16) (harg1 : arg1.IsWhole) (arg2 : Memref sig .tc .vmem S1024x256 .i8) (harg2 : arg2.IsWhole) (arg3 : Memref sig .tc .vmem S8x512 .bf16) (harg3 : arg3.IsWhole) (arg4 : Memref sig .tc .vmem S1024x16 .bf16) (harg4 : arg4.IsWhole) (arg5 : Memref sig .tc .vmem S16x512 .bf16) (harg5 : arg5.IsWhole) (arg6 : Memref sig .tc .vmem S1x512 .f32) (harg6 : arg6.IsWhole) (arg7 : Memref sig .tc .vmem S1536x512 .bf16) (harg7 : arg7.IsWhole) (arg8 : Memref sig .tc .vmem S1x512 .f32) (harg8 : arg8.IsWhole) (arg9 : Memref sig .tc .vmem S1024x512 .bf16) (harg9 : arg9.IsWhole)
    (x0 : Vec Ideal S1536x1024 .bf16) (x1 : Vec Ideal S1024x256 .i8) (x2 : Vec Ideal S8x512 .bf16) (x3 : Vec Ideal S1024x16 .bf16) (x4 : Vec Ideal S16x512 .bf16) (x5 : Vec Ideal S1x512 .f32)

/-- The norms' block is the four stores of column chunks. -/
theorem out7_eq :
    out0_A_7 c i arg1 harg1 arg2 harg2 arg3 harg3 arg4 harg4 arg5 harg5 arg6 harg6 arg7 harg7 arg8 harg8 arg9 harg9 x0 x1 x2 x3 x4 x5
      = View.canon (normPieces (tile x1 x2 x3 x4)) := by
  frame_out
  rfl

/-- The result block is the last store, at the norms and the weight read back whole. -/
theorem out6_eq :
    out0_A_6 c i arg1 harg1 arg2 harg2 arg3 harg3 arg4 harg4 arg5 harg5 arg6 harg6 arg7 harg7 arg8 harg8 arg9 harg9 x0 x1 x2 x3 x4 x5
      = k0_pay3 x5 (View.canon (normPieces (tile x1 x2 x3 x4))) (View.canon (normPieces (tile x1 x2 x3 x4))) x0 (View.canon (tilePieces (tile x1 x2 x3 x4))) := by
  frame_out
  have hn : ∀ (v : View sig .tc .vmem S1x512 .f32) inb, v.readCov (normPieces (tile x1 x2 x3 x4)) (Rect.unit (s := S1x512) ![0, 0] S1x512.size inb).toLoadRect
      = View.canon (normPieces (tile x1 x2 x3 x4)) := fun v inb => by
    rw [View.readCov_eq_canon']
    exact funext fun j => congrArg (View.canon (normPieces (tile x1 x2 x3 x4))) (origin_idx inb j)
  have ht : ∀ (v : View sig .tc .vmem S1024x512 .bf16) inb, v.readCov (tilePieces (tile x1 x2 x3 x4)) (Rect.unit (s := S1024x512) ![0, 0] S1024x512.size inb).toLoadRect
      = View.canon (tilePieces (tile x1 x2 x3 x4)) := fun v inb => by
    rw [View.readCov_eq_canon']
    exact funext fun j => congrArg (View.canon (tilePieces (tile x1 x2 x3 x4))) (origin_idx inb j)
  rw [← hn arg8.view inb_S1x512_S1x512_0_0, ← ht arg9.view inb_S1024x512_S1024x512_0_0]
  rfl

/-- The norms' block at a column. -/
theorem out7_apply (q : Fin 512) :
    out0_A_7 c i arg1 harg1 arg2 harg2 arg3 harg3 arg4 harg4 arg5 harg5 arg6 harg6 arg7 harg7 arg8 harg8 arg9 harg9 x0 x1 x2 x3 x4 x5 (ix2 0 q)
      = colNorm fun r => wAt x1 x2 x3 x4 r q := by
  rw [out7_eq]
  exact canon_normPieces x1 x2 x3 x4 q

/-- The result block at a row and a column. -/
theorem out6_apply (p : Fin 1536) (q : Fin 512) :
    out0_A_6 c i arg1 harg1 arg2 harg2 arg3 harg3 arg4 harg4 arg5 harg5 arg6 harg6 arg7 harg7 arg8 harg8 arg9 harg9 x0 x1 x2 x3 x4 x5 (ix2 p q)
      = Dora.out (fun r => x0 (ix2 p r)) (fun r => wAt x1 x2 x3 x4 r q) (x5 (ix2 0 q)) := by
  rw [out6_eq]
  refine (scaled_apply _ _ _ _ p q).trans ?_
  rw [canon_normPieces]
  simp only [canon_tilePieces]
  rfl

end Cert.KernelIdeal.Tile
end
-- ==== Proof.Arrays.lean ====
/-
  The kernel's two result arrays, entry by entry, from its argument arrays: the eight blocks of 512 columns tile them.
-/
module

public import proofs.«01_k».proof.Proof.Out

@[expose] public section

set_option maxRecDepth 16384

noncomputable section

namespace Cert.KernelIdeal.Arrays

open Idealize.ShloMosaic Idealize.ShloMosaic.TcCoe Idealize.SL.Sem
open Idealize.ShloMosaic.Pipeline (Dat)
open Cert.KernelIdeal Cert.KernelIdeal.Gen Cert.KernelIdeal.Tile Cert.Dora

variable (m : (ℓ : Loc nD τ sig) → Buf (Elt Ideal) ℓ)

/-- Every window's block at every grid point. -/
theorem idx : ∀ t : Fin cfg0.N, win0_0.index t = ![0, 0] ∧ win0_1.index t = ![0, t.val] ∧ win0_2.index t = ![0, t.val] ∧ win0_3.index t = ![0, 0]
    ∧ win0_4.index t = ![0, t.val] ∧ win0_5.index t = ![0, t.val] ∧ win0_6.index t = ![0, t.val] ∧ win0_7.index t = ![0, t.val] ∧ t.val < 8 :=
  (by decide +kernel : ∀ t : Fin grid0.N, _)

/-- Column `q` of point `t`'s blocks, as a column of the arrays. -/
def at512 (t : Fin cfg0.N) (q : Fin 512) : Fin 4096 := ⟨512 * t.val + q.val, by have := (idx t).2.2.2.2.2.2.2.2; omega⟩

/-- The block's column `q` at point `t` is the array's column `512 t + q`. -/
theorem wAt_iblk (c : Dev nD) (t : Fin cfg0.N) (r : Fin 1024) (q : Fin 512) :
    wAt (iblk m c 1 t) (iblk m c 2 t) (iblk m c 3 t) (iblk m c 4 t) r q
      = col (m ((c : Thread nD τ).loc main_arg1)) (m ((c : Thread nD τ).loc main_arg2)) (m ((c : Thread nD τ).loc main_arg3))
          (m ((c : Thread nD τ).loc main_arg4)) (at512 t q) r := by
  unfold wAt col at512
  have e : (512 * t.val + q.val) % 2 = q.val % 2 := by omega
  rw [e]
  have h1 : iblk m c 1 t (ix2 r ⟨q.val / 2, by omega⟩) = m ((c : Thread nD τ).loc main_arg1) (ix2 r ⟨(512 * t.val + q.val) / 2, by have := (idx t).2.2.2.2.2.2.2.2; omega⟩) := by
    blk_ext [iblk, V, idx t]
  have h2 : iblk m c 2 t (ix2 ⟨r.val / 128, by omega⟩ q) = m ((c : Thread nD τ).loc main_arg2) (ix2 ⟨r.val / 128, by omega⟩ ⟨512 * t.val + q.val, by have := (idx t).2.2.2.2.2.2.2.2; omega⟩) := by
    blk_ext [iblk, V, idx t]
  have h3 : ∀ k : Fin 16, iblk m c 3 t (ix2 r k) = m ((c : Thread nD τ).loc main_arg3) (ix2 r k) := by
    intro k; blk_ext [iblk, V, idx t]
  have h4 : ∀ k : Fin 16, iblk m c 4 t (ix2 k q) = m ((c : Thread nD τ).loc main_arg4) (ix2 k ⟨512 * t.val + q.val, by have := (idx t).2.2.2.2.2.2.2.2; omega⟩) := by
    intro k; blk_ext [iblk, V, idx t]
  rw [h1, h2]
  simp only [h3, h4]

/-- The magnitudes' block holds the vector's entries. -/
theorem mag_iblk (c : Dev nD) (t : Fin cfg0.N) (q : Fin 512) :
    iblk m c 5 t (ix2 0 q) = m ((c : Thread nD τ).loc main_arg5) (ix1 (at512 t q)) := by
  unfold at512
  blk_simp [iblk]
  entry_read
  pointwise []
  blk_ext [idx t]

/-- The input's block is the whole input, batch and position flattened. -/
theorem x_iblk (c : Dev nD) (t : Fin cfg0.N) (p : Fin 1536) (r : Fin 1024) :
    iblk m c 0 t (ix2 p r) = m ((c : Thread nD τ).loc main_arg0) (ix3 ⟨p.val / 384, by omega⟩ ⟨p.val % 384, by omega⟩ r) := by
  blk_simp [iblk]
  entry_read
  pointwise []
  blk_ext [idx t]

/-- A norms' block at an entry, as the array's column norm. -/
theorem point7 (c : Dev nD) (t : Fin cfg0.N) (y : S1x512.Idx) (Y : S1x4096.Idx) (hY : (Y 1 : Fin 4096) = at512 t (y 1)) :
    (outsAt0 m c t).2 y = colNorm (col (m ((c : Thread nD τ).loc main_arg1)) (m ((c : Thread nD τ).loc main_arg2)) (m ((c : Thread nD τ).loc main_arg3)) (m ((c : Thread nD τ).loc main_arg4)) (Y 1)) := by
  obtain ⟨z, q, rfl⟩ : ∃ (z : Fin 1) (q : Fin 512), y = ix2 z q := ⟨y 0, y 1, eq_ix2 (n0 := 1) (n1 := 512) y⟩
  obtain rfl : z = 0 := Subsingleton.elim _ _
  rw [hY]
  dsimp only [outsAt0]
  rw [out7_apply]
  exact congrArg colNorm (funext fun r => wAt_iblk m c t r q)

/-- A result block at an entry, as the array's output. -/
theorem point6 (c : Dev nD) (t : Fin cfg0.N) (y : S1536x512.Idx) (Y : S1536x4096.Idx) (h0 : (Y 0 : Fin 1536) = y 0)
    (hY : (Y 1 : Fin 4096) = at512 t (y 1)) :
    (outsAt0 m c t).1 y = layer (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (Y 0) (Y 1) := by
  obtain ⟨p, q, rfl⟩ : ∃ (p : Fin 1536) (q : Fin 512), y = ix2 p q := ⟨y 0, y 1, eq_ix2 (n0 := 1536) (n1 := 512) y⟩
  rw [h0, hY]
  dsimp only [outsAt0]
  rw [out6_apply, mag_iblk]
  unfold layer
  congr 1
  · exact funext fun r => x_iblk m c t p r
  · exact funext fun r => wAt_iblk m c t r q

/-- The norms' array after the run: the norm of every column of the adapted weight. -/
theorem final7 (c : Dev nD) : (dats m 0 c).arrAt 7 cfg0.N = fun i : S1x4096.Idx =>
    colNorm (col (m ((c : Thread nD τ).loc main_arg1)) (m ((c : Thread nD τ).loc main_arg2)) (m ((c : Thread nD τ).loc main_arg3)) (m ((c : Thread nD τ).loc main_arg4)) (i 1)) := by
  refine (dats m 0 c).arrAt_eq_of_covers 7 _ (by decide +kernel) fun t _ y => ?_
  blk_simp
  rw [after0_7]
  refine point7 m c t y _ (Fin.ext ?_)
  blk_simp [idx t, at512]
  exact congrArg (· + _) (Nat.mul_comm _ _)

/-- The result array after the run: the layer's output at every row and column. -/
theorem final6 (c : Dev nD) : (dats m 0 c).arrAt 6 cfg0.N = fun i : S1536x4096.Idx =>
    layer (m ((c : Thread nD τ).loc main_arg1)) (m ((c : Thread nD τ).loc main_arg2)) (m ((c : Thread nD τ).loc main_arg3)) (m ((c : Thread nD τ).loc main_arg4)) (m ((c : Thread nD τ).loc main_arg0)) (m ((c : Thread nD τ).loc main_arg5)) (i 0) (i 1) := by
  refine (dats m 0 c).arrAt_eq_of_covers 6 _ (by decide +kernel) fun t _ y => ?_
  blk_simp
  rw [after0_6]
  refine point6 m c t y _ (Fin.ext ?_) (Fin.ext ?_)
  · blk_simp [idx t]
  · blk_simp [idx t, at512]
    exact congrArg (· + _) (Nat.mul_comm _ _)

end Cert.KernelIdeal.Arrays
end
-- ==== Proof.Half.lean ====
/-
  The reference, entry by entry, from its argument arrays. It computes the even and the odd columns by the same
  operations on different codes, scales, factors and magnitudes, so these are read once, then used at both.
-/
module

public import proofs.«01_k».proof.Proof.Spec
public import proofs.«01_k».proof.Proof.Gen.ReferenceIdeal.Read
public import Idealize.ShloMosaic.Lib.Pointwise
public import Idealize.ShloMosaic.Lib.Pipeline.ValueKit

@[expose] public section

set_option maxRecDepth 16384

noncomputable section

namespace Cert.ReferenceIdeal.Half

open Idealize.ShloMosaic Idealize.ShloMosaic.TcCoe Idealize.SL.Sem Idealize.ShloMosaic.StableHlo
open Cert.ReferenceIdeal Cert.ReferenceIdeal.Gen Cert.Dora

/-- The adapted weight of half of the columns: codes times repeated scales, plus twice the low-rank product. -/
def weight (q : IVec S1024x2048 32) (s : FVec Ideal S8x2048 .bf16) (a : FVec Ideal S1024x16 .bf16) (b : FVec Ideal S16x2048 .bf16) :
    FVec Ideal S1024x2048 .f32 :=
  addf (extf .f32 (mulf (sitofp .bf16 q) (shapeCast S1024x2048 (broadcastInDim S8x128x2048 ![0, 2] bcast_S8x2048_S8x128x2048_0_2 s) shapeCasts_S8x128x2048_S1024x2048)) bitsLt_bf16_f32)
    (mulf (broadcastInDim S1024x2048 ![] bcast_S_S1024x2048 (constant S_ .f32 0x40000000#32))
      (Host.dotGeneral dot_S1024x16_S16x2048_S1024x2048_1_0_0_1_n_n none a b))

/-- The norms of its columns. -/
def norms (v : FVec Ideal S1024x2048 .f32) : FVec Ideal S2048 .f32 :=
  Host.sqrt (Host.reduceAdd (mulf v v) (constant S_ .f32 0x00000000#32) reducesTo_S1024x2048_S2048_d0 h_S_)

/-- The result at these columns. -/
def result (x : FVec Ideal S4x384x1024 .bf16) (v : FVec Ideal S1024x2048 .f32) (mag : FVec Ideal S2048 .f32) : FVec Ideal S4x384x2048 .f32 :=
  mulf (Host.dotGeneral dot_S4x384x1024_S1024x2048_S4x384x2048_2_0_01_1_n_n none x (truncf .bf16 v bitsLt_bf16_f32))
    (broadcastInDim S4x384x2048 ![0, 1, 2] bcast_S1x1x2048_S4x384x2048_0_1_2
      (broadcastInDim S1x1x2048 ![2] bcast_S2048_S1x1x2048_2
        (Host.divf mag (select (cmpf .ogt (norms v) (broadcastInDim S2048 ![] bcast_S_S2048 (constant S_ .f32 0x00000000#32))) (norms v)
          (broadcastInDim S2048 ![] bcast_S_S2048 (constant S_ .f32 0x3F800000#32))))))

/-- An entry of the weight. -/
theorem weight_apply (q : IVec S1024x2048 32) (s : FVec Ideal S8x2048 .bf16) (a : FVec Ideal S1024x16 .bf16) (b : FVec Ideal S16x2048 .bf16)
    (r : Fin 1024) (h : Fin 2048) : weight q s a b (ix2 r h)
      = (((q (ix2 r h)).toInt : ℝ) : EReal) * s (ix2 ⟨r.val / 128, by omega⟩ h)
        + Ideal.ofBits .f32 0x40000000#32 * ∑ k : Fin 16, a (ix2 r k) * b (ix2 k h) := by
  pointwise [weight]
  rfl

/-- A column's norm. -/
theorem norms_apply (v : FVec Ideal S1024x2048 .f32) (h : Fin 2048) : norms v (ix1 h) = colNorm fun r => v (ix2 r h) := by
  pointwise [norms, colNorm]

/-- An entry of the result. -/
theorem result_apply (x : FVec Ideal S4x384x1024 .bf16) (v : FVec Ideal S1024x2048 .f32) (mag : FVec Ideal S2048 .f32)
    (b : Fin 4) (s : Fin 384) (h : Fin 2048) :
    result x v mag (ix3 b s h) = Dora.out (fun r => x (ix3 b s r)) (fun r => v (ix2 r h)) (mag (ix1 h)) := by
  unfold Dora.out
  rw [← norms_apply]
  pointwise [result]

/-- A nibble as a signed number, as the reference decodes it. -/
def decode (w : BitVec 32) : BitVec 32 := Scalar.select (IntOp.cmpi .sge w 8#32) (IntOp.subi w 16#32) w

/-- Decoding the low nibble of a byte. -/
theorem decode_lo (b : BitVec 8) : (decode (IntOp.andi (b.setWidth 32) 15#32)).toInt = nibble b 0 := by
  obtain ⟨n⟩ := b
  revert n
  decide +kernel

/-- Decoding the high nibble of a byte. -/
theorem decode_hi (b : BitVec 8) : (decode (IntOp.andi (IntOp.shrsi .host (b.setWidth 32) 4#32) 15#32)).toInt = nibble b 1 := by
  obtain ⟨n⟩ := b
  revert n
  decide +kernel

variable (x0 : FVec Ideal S4x384x1024 .bf16) (x1 : IVec S1024x2048 8) (x2 : FVec Ideal S8x4096 .bf16) (x3 : FVec Ideal S1024x16 .bf16)
  (x4 : FVec Ideal S16x4096 .bf16) (x5 : FVec Ideal S4096 .f32)

/-- The even columns' weight. -/
def weightLo : FVec Ideal S1024x2048 .f32 :=
  weight (Read.val_main_v7 (F := Ideal) x1) (Read.val_main_v17 (F := Ideal) x2) x3 (Read.val_main_v18 (F := Ideal) x4)

/-- The odd columns' weight. -/
def weightHi : FVec Ideal S1024x2048 .f32 :=
  weight (Read.val_main_v16 (F := Ideal) x1) (Read.val_main_v41 (F := Ideal) x2) x3 (Read.val_main_v42 (F := Ideal) x4)

/-- Column `h` of the even half is column `2 h`. -/
theorem weightLo_apply (q : Fin 4096) (h : Fin 2048) (hq : q.val = 2 * h.val) (r : Fin 1024) :
    weightLo x1 x2 x3 x4 (ix2 r h) = col x1 x2 x3 x4 q r := by
  obtain ⟨q, hlt⟩ := q
  obtain rfl : q = 2 * h.val := hq
  have hc : (Read.val_main_v7 (F := Ideal) x1 (ix2 r h)).toInt = nibble (x1 (ix2 r h)) 0 := decode_lo _
  have hs : ∀ g : Fin 8, Read.val_main_v17 (F := Ideal) x2 (ix2 g h) = x2 (ix2 g ⟨2 * h.val, by omega⟩) := by
    intro g; pointwise [Read.val_main_v17]
  have hb : ∀ k : Fin 16, Read.val_main_v18 (F := Ideal) x4 (ix2 k h) = x4 (ix2 k ⟨2 * h.val, by omega⟩) := by
    intro k; pointwise [Read.val_main_v18]
  have e1 : 2 * h.val / 2 = h.val := by omega
  have e2 : 2 * h.val % 2 = 0 := by omega
  unfold weightLo col entry
  rw [weight_apply, hc, hs]
  simp only [hb, e1, e2]

/-- Column `h` of the odd half is column `2 h + 1`. -/
theorem weightHi_apply (q : Fin 4096) (h : Fin 2048) (hq : q.val = 2 * h.val + 1) (r : Fin 1024) :
    weightHi x1 x2 x3 x4 (ix2 r h) = col x1 x2 x3 x4 q r := by
  obtain ⟨q, hlt⟩ := q
  obtain rfl : q = 2 * h.val + 1 := hq
  have hc : (Read.val_main_v16 (F := Ideal) x1 (ix2 r h)).toInt = nibble (x1 (ix2 r h)) 1 := decode_hi _
  have hs : ∀ g : Fin 8, Read.val_main_v41 (F := Ideal) x2 (ix2 g h) = x2 (ix2 g ⟨2 * h.val + 1, by omega⟩) := by
    intro g; pointwise [Read.val_main_v41]; blk_ext []
  have hb : ∀ k : Fin 16, Read.val_main_v42 (F := Ideal) x4 (ix2 k h) = x4 (ix2 k ⟨2 * h.val + 1, by omega⟩) := by
    intro k; pointwise [Read.val_main_v42]; blk_ext []
  have e1 : (2 * h.val + 1) / 2 = h.val := by omega
  have e2 : (2 * h.val + 1) % 2 = 1 := by omega
  unfold weightHi col entry
  rw [weight_apply, hc, hs]
  simp only [hb, e1, e2]

/-- The two halves' results stacked on a last axis of size two. -/
def stack3 (lo hi : FVec Ideal S4x384x2048 .f32) : FVec Ideal S4x384x2048x2 .f32 :=
  concatenate S4x384x2048x2 3
    [⟨S4x384x2048x1, broadcastInDim S4x384x2048x1 ![0, 1, 2] bcast_S4x384x2048_S4x384x2048x1_0_1_2 lo⟩,
     ⟨S4x384x2048x1, broadcastInDim S4x384x2048x1 ![0, 1, 2] bcast_S4x384x2048_S4x384x2048x1_0_1_2 hi⟩]
    concatenates_S4x384x2048x1_S4x384x2048x1_S4x384x2048x2_d3

/-- An entry of the stack: the last coordinate chooses the half. -/
theorem stack3_apply (lo hi : FVec Ideal S4x384x2048 .f32) (b : Fin 4) (s : Fin 384) (h : Fin 2048) (e : Fin 2) :
    stack3 lo hi (ix4 b s h e) = if e.val = 0 then lo (ix3 b s h) else hi (ix3 b s h) := by
  pointwise [stack3]
  exact dite_congr (by rw [Nat.lt_one_iff]) (fun _ => rfl) (fun _ => rfl)

/-- Rounding to the result's type leaves an extended real as it is. -/
theorem rounded_apply (w : FVec Ideal S4x384x4096 .f32) (i : S4x384x4096.Idx) : truncf (F := Ideal) .bf16 w bitsLt_bf16_f32 i = w i := rfl

/-- The joined results, flattened: column `q` comes from the half of its parity, at `q / 2`. -/
theorem join3_apply (lo hi : FVec Ideal S4x384x2048 .f32) (p : Fin 1536) (q : Fin 4096) :
    shapeCast S1536x4096 (truncf .bf16 (shapeCast S4x384x4096 (stack3 lo hi) shapeCasts_S4x384x2048x2_S4x384x4096) bitsLt_bf16_f32)
        shapeCasts_S4x384x4096_S1536x4096 (ix2 p q)
      = if q.val % 2 = 0 then lo (ix3 ⟨p.val / 384, by omega⟩ ⟨p.val % 384, by omega⟩ ⟨q.val / 2, by omega⟩)
        else hi (ix3 ⟨p.val / 384, by omega⟩ ⟨p.val % 384, by omega⟩ ⟨q.val / 2, by omega⟩) := by
  refine Eq.trans ?_ (stack3_apply lo hi ⟨p.val / 384, by omega⟩ ⟨p.val % 384, by omega⟩ ⟨q.val / 2, by omega⟩ ⟨q.val % 2, by omega⟩)
  generalize stack3 lo hi = z
  refine (shapeCast_apply _ shapeCasts_S4x384x4096_S1536x4096 (ix2 p q) (ix3 ⟨p.val / 384, by omega⟩ ⟨p.val % 384, by omega⟩ q) ?_).trans
    ((rounded_apply _ _).trans (shapeCast_apply z shapeCasts_S4x384x2048x2_S4x384x4096 (ix3 ⟨p.val / 384, by omega⟩ ⟨p.val % 384, by omega⟩ q)
      (ix4 ⟨p.val / 384, by omega⟩ ⟨p.val % 384, by omega⟩ ⟨q.val / 2, by omega⟩ ⟨q.val % 2, by omega⟩) ?_))
  · rw [Shape.rowMajor_val_three, Shape.rowMajor_val_two]
    show (p.val / 384 * 384 + p.val % 384) * 4096 + q.val = p.val * 4096 + q.val
    omega
  · rw [Shape.rowMajor_val_four, Shape.rowMajor_val_three]
    show ((p.val / 384 * 384 + p.val % 384) * 2048 + q.val / 2) * 2 + q.val % 2 = (p.val / 384 * 384 + p.val % 384) * 4096 + q.val
    omega

/-- The joined norms, flattened. -/
theorem join1_apply (lo hi : FVec Ideal S2048 .f32) (q : Fin 4096) :
    shapeCast S1x4096 (shapeCast S4096 (concatenate S2048x2 1
        [⟨S2048x1, broadcastInDim S2048x1 ![0] bcast_S2048_S2048x1_0 lo⟩, ⟨S2048x1, broadcastInDim S2048x1 ![0] bcast_S2048_S2048x1_0 hi⟩]
        concatenates_S2048x1_S2048x1_S2048x2_d1) shapeCasts_S2048x2_S4096) shapeCasts_S4096_S1x4096 (ix2 0 q)
      = if q.val % 2 = 0 then lo (ix1 ⟨q.val / 2, by omega⟩) else hi (ix1 ⟨q.val / 2, by omega⟩) := by
  pointwise []
  exact dite_congr (by rw [Nat.lt_one_iff]) (fun _ => rfl) (fun _ => rfl)

/-- The reference's norms: the norm of every column of the adapted weight. -/
theorem norms_eq : Read.val_main_v75 (F := Ideal) x1 x2 x3 x4 = fun i => colNorm (col x1 x2 x3 x4 (i 1)) := by
  funext i
  obtain ⟨z, q, rfl⟩ : ∃ (z : Fin 1) (q : Fin 4096), i = ix2 z q := ⟨i 0, i 1, eq_ix2 (n0 := 1) (n1 := 4096) i⟩
  obtain rfl : z = 0 := Subsingleton.elim _ _
  refine (join1_apply (norms (weightLo x1 x2 x3 x4)) (norms (weightHi x1 x2 x3 x4)) q).trans ?_
  split
  · exact (norms_apply _ _).trans (congrArg colNorm (funext fun r => weightLo_apply x1 x2 x3 x4 q _ (by show q.val = 2 * (q.val / 2); omega) r))
  · exact (norms_apply _ _).trans (congrArg colNorm (funext fun r => weightHi_apply x1 x2 x3 x4 q _ (by show q.val = 2 * (q.val / 2) + 1; omega) r))

/-- The reference's result: the layer's output at every row and column. -/
theorem result_eq : Read.val_main_v74 (F := Ideal) x0 x1 x2 x3 x4 x5 = fun i => layer x1 x2 x3 x4 x0 x5 (i 0) (i 1) := by
  funext i
  obtain ⟨p, q, rfl⟩ : ∃ (p : Fin 1536) (q : Fin 4096), i = ix2 p q := ⟨i 0, i 1, eq_ix2 (n0 := 1536) (n1 := 4096) i⟩
  refine (join3_apply (result x0 (weightLo x1 x2 x3 x4) (Read.val_main_v19 (F := Ideal) x5))
    (result x0 (weightHi x1 x2 x3 x4) (Read.val_main_v43 (F := Ideal) x5)) p q).trans ?_
  show _ = layer x1 x2 x3 x4 x0 x5 p q
  unfold layer
  split
  · rw [result_apply]
    congr 1
    · exact funext fun r => weightLo_apply x1 x2 x3 x4 q _ (by show q.val = 2 * (q.val / 2); omega) r
    · pointwise [Read.val_main_v19]
      blk_ext []
  · rw [result_apply]
    congr 1
    · exact funext fun r => weightHi_apply x1 x2 x3 x4 q _ (by show q.val = 2 * (q.val / 2) + 1; omega) r
    · pointwise [Read.val_main_v43]
      blk_ext []

end Cert.ReferenceIdeal.Half
end
-- ==== Proof.lean ====
/-
  The proof of the certificate's claims. The kernel's run leaves in its two result arrays the layer's output and the
  norms of the adapted weight's columns (`Proof.Arrays`); the reference computes the same two functions (`Proof.Half`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Arrays
public import proofs.«01_k».proof.Proof.Half
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The idealized kernel and the idealized reference end with equal results. -/
theorem algebraic : Cert.algebraic_KernelIdeal_ReferenceIdeal := by
  pair_intro
  · run_from Cert.KernelIdeal.Gen.run_main m g
  · run_from Cert.ReferenceIdeal.Value.run m' g'
    · refine ((Cert.ReferenceIdeal.Read.val_main_v74_eq m' c).trans ?_).trans (Cert.KernelIdeal.Arrays.final6 m c).symm
      obtain ⟨h0, h1, h2, h3, h4, h5⟩ := hagree c
      rw [h0, h1, h2, h3, h4, h5]
      exact Cert.ReferenceIdeal.Half.result_eq _ _ _ _ _ _
    · refine ((Cert.ReferenceIdeal.Read.val_main_v75_eq m' c).trans ?_).trans (Cert.KernelIdeal.Arrays.final7 m c).symm
      obtain ⟨-, h1, h2, h3, h4, -⟩ := hagree c
      rw [h1, h2, h3, h4]
      exact Cert.ReferenceIdeal.Half.norms_eq _ _ _ _

/-- The idealized reference ends with its arguments unchanged and, having no semaphores, with every counter at zero. -/
theorem quiescent_reference : Cert.quiescent_ReferenceIdeal := fun m g _ =>
  (θ_run _ _ _).mono (fun r h => ⟨fun c => (h c).2.2, sem_eq_zero_of_no_sems (by decide) r.2⟩) (Cert.ReferenceIdeal.Value.run m g)

/-- The certificate's five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_reference, trivial, algebraic⟩

end Cert.Proof

end
